-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1048576x64 : Shape := ⟨2, ![1048576, 64]⟩
abbrev S1048576x32 : Shape := ⟨2, ![1048576, 32]⟩
abbrev S4096x64 : Shape := ⟨2, ![4096, 64]⟩
abbrev S4096x32 : Shape := ⟨2, ![4096, 32]⟩
abbrev S4096x2 : Shape := ⟨2, ![4096, 2]⟩

abbrev nBuf : Space → Nat
  | .hbm => 2
  | .vmem => 4
  | .smem => 0
  | _ => 0

abbrev bufTy : (tb : Table) → Fin (tcTables nBuf tb) → BufTy
  | .hbm, ⟨0, _⟩ => ⟨S1048576x64, .f32⟩
  | .hbm, ⟨1, _⟩ => ⟨S1048576x32, .f32⟩
  | .local _ .vmem, ⟨0, _⟩ => ⟨S4096x64, .f32⟩
  | .local _ .vmem, ⟨1, _⟩ => ⟨S4096x64, .f32⟩
  | .local _ .vmem, ⟨2, _⟩ => ⟨S4096x32, .f32⟩
  | .local _ .vmem, ⟨3, _⟩ => ⟨S4096x32, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1048576x64 : Shape := ⟨2, ![1048576, 64]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S1048576x32 : Shape := ⟨2, ![1048576, 32]⟩

abbrev nBuf : Space → Nat
  | .hbm => 25
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S32, .i32⟩
  | .hbm, ⟨2, _⟩ => ⟨S_, .i32⟩
  | .hbm, ⟨3, _⟩ => ⟨S32, .i32⟩
  | .hbm, ⟨4, _⟩ => ⟨S32, .i1⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .i32⟩
  | .hbm, ⟨9, _⟩ => ⟨S32x1, .i32⟩
  | .hbm, ⟨10, _⟩ => ⟨S1, .i32⟩
  | .hbm, ⟨11, _⟩ => ⟨S_, .i32⟩
  | .hbm, ⟨12, _⟩ => ⟨S32x1, .i32⟩
  | .hbm, ⟨13, _⟩ => ⟨S32x1, .i1⟩
  | .hbm, ⟨14, _⟩ => ⟨S1x1, .i32⟩
  | .hbm, ⟨15, _⟩ => ⟨S32x1, .i32⟩
  | .hbm, ⟨16, _⟩ => ⟨S32x1, .i1⟩
  | .hbm, ⟨17, _⟩ => ⟨S32x1, .i1⟩
  | .hbm, ⟨18, _⟩ => ⟨S_, .i1⟩
  | .hbm, ⟨19, _⟩ => ⟨S32, .i1⟩
  | .hbm, ⟨20, _⟩ => ⟨S1048576x32, .f32⟩
  | .hbm, ⟨21, _⟩ => ⟨S1048576x32, .i1⟩
  | .hbm, ⟨22, _⟩ => ⟨S_, .f32⟩
  | .hbm, ⟨23, _⟩ => ⟨S1048576x32, .f32⟩
  | .hbm, ⟨24, _⟩ => ⟨S1048576x32, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Selected.lean ====
/-
  The function both programs compute: of a row of 64 features, sixteen levels of four, keep the first two of each level.
-/
module

public import Idealize.ShloMosaic.Lib.ValueIdx

@[expose] public section

namespace Cert.Select

open Idealize.ShloMosaic

/-- The input column that result column `j` shows: feature `j % 2` of level `j / 2`, each level being four columns wide. -/
def column (j : Nat) : Nat := 4 * (j / 2) + j % 2

/-- The 32 result columns show columns of the 64 that there are. -/
theorem column_lt {j : Nat} (hj : j < 32) : column j < 64 := by unfold column; omega

/-- The selection from an array of `n` rows: result element `(i, j)` is the array's element `(i, column j)`. -/
def selected {α : Type} {n : Nat} (x : (⟨2, ![n, 64]⟩ : Shape).Idx → α) : (⟨2, ![n, 32]⟩ : Shape).Idx → α :=
  fun i => x (ValueIdx.ix2 ⟨(i 0).val, ValueIdx.idx2_lt0 i⟩ ⟨column (i 1).val, column_lt (ValueIdx.idx2_lt1 i)⟩)

/-- Where an index lies, told by its two coordinates: an element of `x` at such an index is the selection at `i`. -/
theorem eq_selected {α : Type} {n : Nat} (x : (⟨2, ![n, 64]⟩ : Shape).Idx → α) (i : (⟨2, ![n, 32]⟩ : Shape).Idx)
    (k : (⟨2, ![n, 64]⟩ : Shape).Idx) (h0 : (k 0).val = (i 0).val) (h1 : (k 1).val = column (i 1).val) :
    x k = selected x i := by
  unfold selected
  congr 1
  funext a
  refine Fin.ext ?_
  match a with
  | ⟨0, _⟩ => exact h0
  | ⟨1, _⟩ => exact h1

end Cert.Select
-- ==== Proof.KernelValue.lean ====
/-
  What the tiled kernel leaves in its result array, for any float values: one block is the selection from the block that
  was staged, and the 256 blocks tile the array.
-/
module

public import proofs.«01_k».proof.Proof.Selected
public import proofs.«01_k».proof.Proof.Gen.Kernel.Frame
public import Idealize.ShloMosaic.Lib.Pipeline.Value
public import Idealize.ShloMosaic.Lib.Pipeline.ValueKit.Partial

@[expose] public section

noncomputable section

namespace Cert.Kernel.Selection

open Cert.Kernel Cert.Kernel.Gen Cert.Select Idealize.ShloMosaic Idealize.ShloMosaic.TcCoe Idealize.SL.Sem
open Idealize.ShloMosaic.Pipeline (Dat)

variable {F : FTy → Type} [FloatOps F]

/-! ## One block -/

/-- Two columns from column `4 * k` on are inside the 64 of a block. -/
theorem slice_fits (k : Fin 16) : S4096x64.Slices ![0, 4 * k.val] S4096x2 := by
  revert k; decide

/-- Slice number `k` of the sixteen that the body concatenates: the two columns of the loaded block from `4 * k` on. -/
abbrev slice (b : Vec F S4096x64 .f32) (k : Fin 16) : Vec F S4096x2 .f32 :=
  extractStridedSlice S4096x2 ![0, 4 * k.val] b (slice_fits k)

/-- The stored value is the concatenation of the sixteen slices, read at an index: the element comes from the slice that
    its column's level numbers. -/
theorem payload_apply (b : Vec F S4096x64 .f32) (y : S4096x32.Idx) : k0_pay1 b y = selected (n := 4096) b y := by
  have h1 := ValueIdx.idx2_lt1 y
  have hc : (y 1).val / 2 < 16 := by omega
  show concatenate S4096x32 1 (List.ofFn fun k : Fin 16 => (⟨S4096x2, slice b k⟩ : (s : Shape) × (s.Idx → Elt F .f32)))
    concatenates_S4096x2_S4096x2_S4096x2_S4096x2_S4096x2_S4096x2_S4096x2_S4096x2_S4096x2_S4096x2_S4096x2_S4096x2_S4096x2_S4096x2_S4096x2_S4096x2_S4096x32_d1 y = _
  refine (concatenate_ofFn_apply (t := S4096x32) (s₁ := S4096x2) (1 : Fin 2) (slice b) _ rfl 2 rfl y
    ⟨(y 1).val / 2, hc⟩ rfl (ValueIdx.ix2 ⟨(y 0).val, ValueIdx.idx2_lt0 y⟩ ⟨(y 1).val % 2, Nat.mod_lt _ Nat.two_pos⟩) rfl ?_).trans ?_
  · intro a ha
    match a with
    | ⟨0, _⟩ => rfl
    | ⟨1, _⟩ => exact absurd rfl ha
  · refine eq_selected (n := 4096) b y _ ?_ ?_
    · show 0 + (y 0).val = (y 0).val
      omega
    · rfl

/-- What the body leaves in the output's buffer, of the block `b` in the input's: the selection from `b`. -/
theorem out_eq (b : Vec F S4096x64 .f32) : out0_1 b = selected (n := 4096) b := by
  have hz : (![0, 0] : Fin 2 → Nat) = fun _ => 0 := funext fun a => by fin_cases a <;> rfl
  unfold out0_1
  rw [View.canon_unit_zero hz, View.ld_unit_zero hz]
  exact funext (payload_apply b)

/-! ## The array -/

variable (m : (ℓ : Loc nD τ sig) → Buf (Elt F) ℓ) (ρ : Dev nD → PrngReg)

/-- The selection from device `c`'s argument array. -/
abbrev result (c : Dev nD) : Buf (Elt F) ((c : Thread nD τ).loc main_v0) :=
  selected (n := 1048576) (m ((c : Thread nD τ).loc main_arg0))

/-- At every grid point the input's block and the output's stand at the same row, both at column 0. -/
theorem same_rows : ∀ t : Fin cfg0.N, win0_0.index t 0 = win0_1.index t 0 ∧ win0_0.index t 1 = 0 ∧ win0_1.index t 1 = 0 :=
  (by decide +kernel : ∀ t : Fin grid0.N, win0_0.index t 0 = win0_1.index t 0 ∧ win0_0.index t 1 = 0 ∧ win0_1.index t 1 = 0)

/-- What point `t` writes back is its block of the whole selection: the rows go over unchanged, and the columns of a
    block are the array's. -/
theorem flushed_eq (c : Dev nD) (t : Fin cfg0.N) :
    (dats m 0 c).flushed 1 t = ((cfg0.win 1).blk t).view.read (Elt F) (result m c) := by
  obtain ⟨hr, h0, h1⟩ := same_rows t
  show (cfg0.win 1).cut (grid0.coords t) ((dats m 0 c).after 1 t) = _
  rw [after0_1, out_eq]
  funext y
  show m ((c : Thread nD τ).loc main_arg0) _ = selected (n := 1048576) (m ((c : Thread nD τ).loc main_arg0)) _
  refine eq_selected (n := 1048576) _ _ _ ?_ ?_
  · show win0_0.index t 0 * 4096 + 1 * (y 0).val = win0_1.index t 0 * 4096 + 1 * (y 0).val
    rw [hr]
  · show win0_0.index t 1 * 64 + 1 * column (y 1).val = column (win0_1.index t 1 * 32 + 1 * (y 1).val)
    rw [h0, h1]
    simp only [Nat.zero_mul, Nat.zero_add, Nat.one_mul]

/-- The blocks that are written back cover the whole array. -/
theorem covers : win0_1.CoversWhere fun _ => True := by decide +kernel

/-- The result array ends as the selection from the argument. -/
theorem final (c : Dev nD) : (dats m 0 c).arrAt 1 cfg0.N = result m c :=
  (dats m 0 c).arrAt_eq_of_cover 1 (result m c) (fun t _ => flushed_eq m c t) fun i =>
    (covers.covered_iff i).mpr trivial

/-- The run: every execution ends with the selection in the result array and the argument unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨((h c).1 1).trans (final m c), ((h c).1 0).trans ((dats m 0 c).arrAt_in 0 rfl _)⟩)
    (run_main m ρ)

end Cert.Kernel.Selection

end
-- ==== Proof.IdealValue.lean ====
/-
  The idealized kernel's run. Its text is the kernel's own, no operation having been rewritten, so its body table is the
  kernel's, and what is proved of the kernel at any float values is proved of it.
-/
module

public import proofs.«01_k».proof.Proof.KernelValue
public import proofs.«01_k».proof.Proof.Gen.KernelIdeal.Frame

@[expose] public section

noncomputable section

namespace Cert.KernelIdeal.Selection

open Idealize.ShloMosaic Idealize.ShloMosaic.TcCoe Idealize.SL.Sem

variable {F : FTy → Type} [FloatOps F]

/-- The kernels' body tables are the same: the one label runs the same body on the same buffers. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- So are the whole programs' tables, with the pipelines around the bodies. -/
theorem defs_eq : Cert.Kernel.defs (F := F) = Cert.KernelIdeal.defs (F := F) :=
  congrArg (Pipeline.defs Cert.KernelIdeal.pcfgs) bodies_eq

open Cert.KernelIdeal

/-- The run: every execution ends with the selection in the result array and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = Cert.Select.selected (n := 1048576) (m ((c : Thread nD τ).loc main_arg0))
      ∧ r.2.mem ((c : Thread nD τ).loc main_arg0) = m ((c : Thread nD τ).loc main_arg0) := by
  rw [← defs_eq]
  exact Cert.Kernel.Selection.run m ρ

end Cert.KernelIdeal.Selection

end
-- ==== Proof.ReferenceValue.lean ====
/-
  What the reference leaves in its result array, for any float values: every index of the table is inside the row, so
  `jnp.take`'s wrapping of negative indices and its filling of those outside do nothing, and its gather is the selection.
-/
module

public import proofs.«01_k».proof.Proof.Selected
public import proofs.«01_k».proof.Proof.Gen.Reference.Run
public import Idealize.ShloMosaic.Lib.ReduceAll
public import Idealize.ShloMosaic.Lib.Pipeline.Value

@[expose] public section

noncomputable section

namespace Cert.Reference.Selection

open Cert.Reference Cert.Reference.Gen Cert.Select Idealize.ShloMosaic Idealize.ShloMosaic.TcCoe Idealize.SL.Sem

/-! ## The table of indices -/

/-- Entry `j` of the table is `column j`. -/
theorem table_eq : ∀ j : Fin 32, lit0 j = BitVec.ofNat 32 (column j.val) := by decide

/-- The wrapping of a negative index (`64` added), on a table's entry: none is negative. -/
theorem wrap_eq : ∀ j : Fin 32,
    Scalar.select (IntOp.cmpi .slt (lit0 j) 0#32) (IntOp.addi (lit0 j) 64#32) (lit0 j) = lit0 j := by decide

/-- Every entry of the table is between 0 and 63, as the fill mode's two comparisons say. -/
theorem inside : ∀ j : Fin 32, IntOp.andi (IntOp.cmpi .sge (lit0 j) 0#32) (IntOp.cmpi .sle (lit0 j) 63#32) = 1#1 := by decide

/-- An entry of the table, read signed and clamped to the row, is still `column j`. -/
theorem clamp_eq : ∀ j : Fin 32, min (lit0 j).toInt.toNat (64 - 1) = column j.val := by decide

/-- The table as the programs' array of 32 words. -/
abbrev table : IVec S32 32 := fun i => lit0 (S32.rowMajor i)

/-- A flat array's row-major position is its coordinate. -/
theorem rowMajor_eq (i : S32.Idx) : S32.rowMajor i = i 0 :=
  Fin.ext (Shape.rowMajor_val_one i)

/-- The table with negative indices wrapped, as `[32, 1]`: what the gather and the comparisons read. -/
abbrev starts : IVec S32x1 32 :=
  broadcastInDim S32x1 ![0] bcast_S32_S32x1_0 (select (cmpi .slt table (broadcastInDim S32 ![] bcast_S_S32 (constantI S_ 32 0#32)))
    (addi table (broadcastInDim S32 ![] bcast_S_S32 (constantI S_ 32 64#32))) table)

/-- Entry `(j, 0)` of it is the table's entry `j`. -/
theorem starts_apply (k : S32x1.Idx) : starts k = lit0 ⟨(k 0).val, ValueIdx.idx2_lt0 k⟩ := by
  have e : starts k = Scalar.select (IntOp.cmpi .slt (lit0 (k 0)) 0#32) (IntOp.addi (lit0 (k 0)) 64#32) (lit0 (k 0)) := by
    refine (broadcastInDim_apply _ _ _ k (ValueIdx.ix1 ⟨(k 0).val, ValueIdx.idx2_lt0 k⟩) ?_).trans ?_
    · intro a; obtain rfl : a = 0 := Subsingleton.elim _ _; rfl
    · rw [ValueIdx.select_apply]
      show Scalar.select (IntOp.cmpi .slt (lit0 (S32.rowMajor _)) 0#32) (IntOp.addi (lit0 (S32.rowMajor _)) 64#32) (lit0 (S32.rowMajor _)) = _
      rw [rowMajor_eq]
      rfl
  exact e.trans (wrap_eq _)

/-! ## The gather -/

variable {F : FTy → Type} [FloatOps F]

/-- The gather, with those start indices, is the selection: the rows are taken whole, and the column is the start index. -/
theorem gather_eq (x : Vec F S1048576x64 .f32) (i : S1048576x32.Idx) :
    Host.gather gather_S1048576x64_S32x1_S1048576x32_0_1_n_n_1_1_10485761 x starts i = selected (n := 1048576) x i := by
  refine eq_selected (n := 1048576) x i _ ?_ ?_
  · show GatherDims.start _ i starts 0 + GatherDims.batchCoord _ i 0 + GatherDims.offCoord _ i 0 = _
    rw [GatherDims.batchCoord_eq_zero _ _ _ List.not_mem_nil]
    have hs : (0 : Fin 2) ∉ gather_S1048576x64_S32x1_S1048576x32_0_1_n_n_1_1_10485761.startIndexMap := by decide
    have hk : (0 : Fin 2) ∈ gather_S1048576x64_S32x1_S1048576x32_0_1_n_n_1_1_10485761.sKept := by decide
    unfold GatherDims.start
    rw [dif_neg hs]
    unfold GatherDims.offCoord
    rw [dif_pos hk]
    simp only [Nat.zero_add]
    rfl
  · show GatherDims.start _ i starts 1 + GatherDims.batchCoord _ i 1 + GatherDims.offCoord _ i 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1048576x64_S32x1_S1048576x32_0_1_n_n_1_1_10485761.startIndexMap from List.mem_singleton.mpr rfl), starts_apply]
    exact clamp_eq ⟨(i 1).val, ValueIdx.idx2_lt1 i⟩

/-! ## The fill mode's mask -/

/-- The mask of the result's columns: the reduction, over the one component of each start index, of the two comparisons. -/
abbrev mask : IVec S32 1 :=
  Host.reduce IntOp.andi (andi (cmpi .sge starts (broadcastInDim S32x1 ![] bcast_S_S32x1 (constantI S_ 32 0#32)))
    (cmpi .sle starts (broadcastInDim S32x1 ![0, 1] bcast_S1x1_S32x1_0_1 (broadcastInDim S1x1 ![1] bcast_S1_S1x1_1 (constantI S1 32 63#32)))))
    (constantI S_ 1 1#1) reducesTo_S32x1_S32_d1 h_S_

/-- It is all ones. -/
theorem mask_eq (j : S32.Idx) : mask j = 1#1 := by
  refine Host.reduce_andi_one _ _ _ _ _ rfl fun k => ?_
  show IntOp.andi (IntOp.cmpi .sge (starts k) 0#32) (IntOp.cmpi .sle (starts k) 63#32) = 1#1
  rw [starts_apply]
  exact inside _

/-- So the filled gather is the gather, the selection. -/
theorem take_eq (x : Vec F S1048576x64 .f32) (fill : Vec F S1048576x32 .f32) :
    select (broadcastInDim S1048576x32 ![1] bcast_S32_S1048576x32_1 mask) (Host.gather gather_S1048576x64_S32x1_S1048576x32_0_1_n_n_1_1_10485761 x starts) fill
      = selected (n := 1048576) x := by
  funext i
  have hm : broadcastInDim S1048576x32 ![1] bcast_S32_S1048576x32_1 mask i = 1#1 := mask_eq _
  rw [ValueIdx.select_apply, hm]
  exact gather_eq x i

/-! ## The run -/

variable (m : (ℓ : Loc nD τ sig) → Buf (Elt F) ℓ) (ρ : Dev nD → PrngReg)

/-- The selection from device `c`'s argument array. -/
abbrev result (c : Dev nD) : Buf (Elt F) ((c : Thread nD τ).loc main_v0) :=
  selected (n := 1048576) (m ((c : Thread nD τ).loc main_arg0))

/-- The run: every execution ends with the selection in the result array and the argument unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (take_eq _ _), (h c).2⟩) (Value.run m ρ)

end Cert.Reference.Selection

end
-- ==== Proof.lean ====
/-
  The certificate of the channel selection: the kernel's frame and value, its idealization's, the reference's, and the
  equations between them.

  The idealized programs' text is the programs' own, so one proof at any float values serves both: `Kernel.Selection.run`
  (through `KernelIdeal.Selection.run`) and `Reference.Selection.run`, read at words for `bitexact` and at extended reals
  for `algebraic`.
-/
module

public import proofs.«01_k».proof.Defs
public import proofs.«01_k».proof.Proof.KernelValue
public import proofs.«01_k».proof.Proof.IdealValue
public import proofs.«01_k».proof.Proof.ReferenceValue
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-! ## The frames -/

/-- The reference ends with its argument unchanged; it declares no semaphore. -/
theorem frame_reference : Cert.quiescent_Reference := fun m ρ _ =>
  (θ_run Cert.Reference.defs _ _).mono
    (fun r h => ⟨fun c => (h c).2, sem_eq_zero_of_no_sems (by decide) r.2⟩) (Cert.Reference.Selection.run m ρ)

/-- So does the idealized reference. -/
theorem frame_reference_ideal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-! ## The values -/

/-- As words: the kernel's result array and the reference's both end as the selection from the argument. -/
theorem bitexact : Cert.bitexact_Kernel_Reference := by
  intro m ρ m' ρ' _ same
  refine ⟨fun c => Cert.Kernel.Selection.result m c, Cert.Kernel.Selection.run m ρ, ?_⟩
  refine (θ_run Cert.Reference.defs _ _).mono (fun _ h c => ⟨(h c).1.trans ?_, (h c).2⟩) (Cert.Reference.Selection.run m' ρ')
  exact congrArg (Cert.Select.selected (n := 1048576)) (same c)

/-- Over the extended reals: the same, of the idealized programs. -/
theorem algebraic : Cert.algebraic_KernelIdeal_ReferenceIdeal := by
  intro m ρ m' ρ' _ same
  refine ⟨fun _ => _, Cert.KernelIdeal.Selection.run (F := Ideal) m ρ, ?_⟩
  refine (θ_run Cert.ReferenceIdeal.defs _ _).mono (fun _ h c => ⟨(h c).1.trans ?_, (h c).2⟩)
    (Cert.Reference.Selection.run (F := Ideal) m' ρ')
  exact congrArg (Cert.Select.selected (n := 1048576)) (same c)

/-- Every claim of the certificate. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ, frame_reference_ideal,
    frame_reference, trivial, algebraic, bitexact⟩

end Cert.Proof

end
